-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S4x4096 : Shape := ⟨2, ![4, 4096]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S128x128 : Shape := ⟨2, ![128, 128]⟩
abbrev S16384x1024 : Shape := ⟨2, ![16384, 1024]⟩
abbrev S1x256 : Shape := ⟨2, ![1, 256]⟩
abbrev S1x1 : Shape := ⟨2, ![1, 1]⟩
abbrev S4096x1024 : Shape := ⟨2, ![4096, 1024]⟩
abbrev S32x128 : Shape := ⟨2, ![32, 128]⟩
abbrev S4096x256 : Shape := ⟨2, ![4096, 256]⟩
abbrev S4096x1 : Shape := ⟨2, ![4096, 1]⟩
abbrev S32x1 : Shape := ⟨2, ![32, 1]⟩
abbrev S32x32 : Shape := ⟨2, ![32, 32]⟩
abbrev S1x32x128 : Shape := ⟨3, ![1, 32, 128]⟩
abbrev S1x1x1 : Shape := ⟨3, ![1, 1, 1]⟩

abbrev nBuf : Space → Nat
  | .hbm => 20
  | .vmem => 17
  | .smem => 1
  | _ => 0

abbrev bufTy : (tb : Table) → Fin (tcTables nBuf tb) → BufTy
  | .hbm, ⟨0, _⟩ => ⟨S4x4096x1024, .f32⟩
  | .hbm, ⟨1, _⟩ => ⟨S4x4096, .f32⟩
  | .hbm, ⟨2, _⟩ => ⟨S1024x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S128x128, .f32⟩
  | .hbm, ⟨7, _⟩ => ⟨S16384x1024, .f32⟩
  | .hbm, ⟨8, _⟩ => ⟨S128x128, .f32⟩
  | .hbm, ⟨9, _⟩ => ⟨S1x256, .f32⟩
  | .hbm, ⟨10, _⟩ => ⟨S1x1, .f32⟩
  | .hbm, ⟨11, _⟩ => ⟨S128x128, .bf16⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .i32⟩
  | .hbm, ⟨16, _⟩ => ⟨S4x4096, .f32⟩
  | .hbm, ⟨17, _⟩ => ⟨S4x4096, .f32⟩
  | .hbm, ⟨18, _⟩ => ⟨S4x4096, .f32⟩
  | .hbm, ⟨19, _⟩ => ⟨S4x4096, .i32⟩
  | .local _ .vmem, ⟨0, _⟩ => ⟨S4096x1024, .f32⟩
  | .local _ .vmem, ⟨1, _⟩ => ⟨S4096x1024, .f32⟩
  | .local _ .vmem, ⟨2, _⟩ => ⟨S32x128, .f32⟩
  | .local _ .vmem, ⟨3, _⟩ => ⟨S32x128, .f32⟩
  | .local _ .vmem, ⟨4, _⟩ => ⟨S1024x256, .f32⟩
  | .local _ .vmem, ⟨5, _⟩ => ⟨S1x256, .f32⟩
  | .local _ .vmem, ⟨6, _⟩ => ⟨S256x1, .f32⟩
  | .local _ .vmem, ⟨7, _⟩ => ⟨S1x1, .f32⟩
  | .local _ .vmem, ⟨8, _⟩ => ⟨S128x128, .bf16⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .i32⟩
  | .local _ .vmem, ⟨16, _⟩ => ⟨S32x128, .i32⟩
  | .local _ .smem, ⟨0, _⟩ => ⟨S1x1, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S4x4096x1024 : Shape := ⟨3, ![4, 4096, 1024]⟩
abbrev S4x4096 : Shape := ⟨2, ![4, 4096]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S4x4096x256 : Shape := ⟨3, ![4, 4096, 256]⟩
abbrev S1x1x256 : Shape := ⟨3, ![1, 1, 256]⟩
abbrev S_ : Shape := ⟨0, ![]⟩
abbrev S4x4096x1 : Shape := ⟨3, ![4, 4096, 1]⟩
abbrev S1x1x1 : Shape := ⟨3, ![1, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .f32⟩
  | .hbm, ⟨2, _⟩ => ⟨S1024x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S4x4096x256, .f32⟩
  | .hbm, ⟨7, _⟩ => ⟨S1x1x256, .f32⟩
  | .hbm, ⟨8, _⟩ => ⟨S4x4096x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S_, .f32⟩
  | .hbm, ⟨16, _⟩ => ⟨S4x4096x256, .f32⟩
  | .hbm, ⟨17, _⟩ => ⟨S4x4096x256, .f32⟩
  | .hbm, ⟨18, _⟩ => ⟨S4x4096x256, .f32⟩
  | .hbm, ⟨19, _⟩ => ⟨S4x4096x256, .f32⟩
  | .hbm, ⟨20, _⟩ => ⟨S4x4096x1, .f32⟩
  | .hbm, ⟨21, _⟩ => ⟨S1x1x1, .f32⟩
  | .hbm, ⟨22, _⟩ => ⟨S4x4096x1, .f32⟩
  | .hbm, ⟨23, _⟩ => ⟨S4x4096x1, .f32⟩
  | .hbm, ⟨24, _⟩ => ⟨S4x4096, .f32⟩
  | .hbm, ⟨25, _⟩ => ⟨S4x4096, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .i1⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S_, .f32⟩
  | .hbm, ⟨40, _⟩ => ⟨S_, .f32⟩
  | .hbm, ⟨41, _⟩ => ⟨S4x4096, .f32⟩
  | .hbm, ⟨42, _⟩ => ⟨S_, .f32⟩
  | .hbm, ⟨43, _⟩ => ⟨S4x4096, .f32⟩
  | .hbm, ⟨44, _⟩ => ⟨S4x4096, .f32⟩
  | .hbm, ⟨45, _⟩ => ⟨S4x4096, .f32⟩
  | .hbm, ⟨46, _⟩ => ⟨S_, .f32⟩
  | .hbm, ⟨47, _⟩ => ⟨S4x4096, .f32⟩
  | .hbm, ⟨48, _⟩ => ⟨S4x4096, .f32⟩
  | .hbm, ⟨49, _⟩ => ⟨S_, .f32⟩
  | .hbm, ⟨50, _⟩ => ⟨S4x4096, .f32⟩
  | .hbm, ⟨51, _⟩ => ⟨S4x4096, .f32⟩
  | .hbm, ⟨52, _⟩ => ⟨S4x4096, .f32⟩
  | .hbm, ⟨53, _⟩ => ⟨S4x4096, .i32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_call0_cst : Ref sig .tc := ⟨.hbm, 39, rfl⟩
abbrev main_call0_call0_v0 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Proof.Consts.lean ====
/-
  The float constants that the two programs spell, as the extended reals they denote at exact arithmetic.
-/
module

public import proofs.«01_k».proof.KernelIdeal
public import Idealize.ShloMosaic.PureOps.Ideal
public import Idealize.ShloMosaic.PureOps.Ideal.Laws

@[expose] public section

noncomputable section

namespace Cert.Consts

open Idealize.ShloMosaic

/-- The zero word denotes `0`. -/
theorem ofBits_zero : Ideal.ofBits .f32 0x00000000#32 = (0 : EReal) := by
  simp [Ideal.ofBits, Ideal.ieee, -EReal.coe_mul]

/-- The word of `1.0` denotes `1`. -/
theorem ofBits_one : Ideal.ofBits .f32 0x3F800000#32 = (1 : EReal) := by
  simp [Ideal.ofBits, Ideal.ieee, -EReal.coe_mul]; norm_num

/-- The word of `-1.0` denotes `-1`. -/
theorem ofBits_neg_one : Ideal.ofBits .f32 0xBF800000#32 = (-1 : EReal) := by
  simp [Ideal.ofBits, Ideal.ieee, -EReal.coe_mul]; norm_num

/-- The word of `2.0` denotes the real `2`. -/
theorem ofBits_two : Ideal.ofBits .f32 0x40000000#32 = ((2 : ℝ) : EReal) := by
  simp [Ideal.ofBits, Ideal.ieee, -EReal.coe_mul]; norm_num

/-- The word of `0.5` denotes the real `1/2`. -/
theorem ofBits_half : Ideal.ofBits .f32 0x3F000000#32 = ((1 / 2 : ℝ) : EReal) := by
  simp [Ideal.ofBits, Ideal.ieee, -EReal.coe_mul]; norm_num

/-- The kernel's named constant denotes the real `1/√2`, by the certificate's table. -/
theorem inv_sqrt2 :
    Named.named (F := Ideal) Cert.KernelIdeal.κ "inv_sqrt2" (φ := .f32) 0x3F3504F3#32 = (((Real.sqrt 2)⁻¹ : ℝ) : EReal) :=
  IdealRules.named_const.ideal_named_scalar _ _ _ _ rfl

end Cert.Consts

end
-- ==== Proof.Spec.lean ====
/-
  What the two programs compute, written once over the extended reals: the boundary predictor of a batch of token
  sequences. Everything below is about one token `n` of one sequence `b` of the batch.
-/
module

public import proofs.«01_k».proof.KernelIdeal
public import Idealize.ShloMosaic.PureOps.Ideal
public import Idealize.ShloMosaic.Lib.Pointwise

@[expose] public section

noncomputable section

namespace Cert.Spec

open Idealize.ShloMosaic Cert.KernelIdeal

/-- The exact GELU of `z`, written with the error function: `z/2 · (1 + erf (z/√2))`. -/
def gelu (z : EReal) : EReal :=
  Ideal.ofBits .f32 0x3F000000#32 * z * (1 + Ideal.erf (z * (((Real.sqrt 2)⁻¹ : ℝ) : EReal)))

/-- The hard decision on a probability: `1` above one half, `0` otherwise. -/
def hard (p : EReal) : EReal := if Ideal.ofBits .f32 0x3F000000#32 < p then 1 else 0

variable (X : FVec Ideal S4x4096x1024 .f32) (M : FVec Ideal S4x4096 .f32) (W₁ : FVec Ideal S1024x256 .f32)
  (B₁ : FVec Ideal S256 .f32) (W₂ : FVec Ideal S256x1 .f32) (B₂ : FVec Ideal S1 .f32)

/-- The hidden unit `h` of the token before its activation: the token's features times a column of the first weights,
    plus that unit's bias. -/
def hidden (b : Fin 4) (n : Fin 4096) (h : Fin 256) : EReal :=
  ∑ d : Fin 1024, X (ix3 b n d) * W₁ (ix2 d h) + B₁ (ix1 h)

/-- The token's logit: the activated hidden units times the second weights, plus the second bias. -/
def logit (b : Fin 4) (n : Fin 4096) : EReal :=
  ∑ h : Fin 256, gelu (hidden X W₁ B₁ b n h) * W₂ (ix2 h 0) + B₂ (ix1 0)

/-- The token's probability of starting a segment. -/
def prob (b : Fin 4) (n : Fin 4096) : EReal := Ideal.logistic (logit X W₁ B₁ W₂ B₂ b n)

/-- Whether the token starts a segment, as `1` or `0`. -/
def head (b : Fin 4) (n : Fin 4096) : EReal := hard (prob X W₁ B₁ W₂ B₂ b n)

/-- How many tokens of the sequence start a segment, up to this token and with it. -/
def count (b : Fin 4) (n : Fin 4096) : EReal :=
  ∑ k : Fin 4096, if k.val ≤ n.val then head X W₁ B₁ W₂ B₂ b k else 0

/-- The number of the token's segment, from `0`; `-1` where the mask is `0`. As a real it is rounded toward zero and
    held in a 32-bit integer. -/
def segment (b : Fin 4) (n : Fin 4096) : BitVec 32 :=
  Ideal.fptosi 32 ((count X W₁ B₁ W₂ B₂ b n - 1) * M (ix2 b n) - (1 - M (ix2 b n)))

end Cert.Spec

end
-- ==== Proof.Sums.lean ====
/-
  Two facts about running sums that mention no program. The host's windowed sum over a row, padded on the left by all
  but one position, is the running sum of the row. The running sum of a row of `32 · 128` entries is the whole sums of
  the earlier lanes plus the running sum within the lane.
-/
module

public import Idealize.ShloMosaic.PureOps.Ideal
public import Idealize.ShloMosaic.PureOps.Ideal.Laws
public import Idealize.ShloMosaic.Lib.Pointwise

@[expose] public section

namespace Cert.Sums

open Idealize.ShloMosaic

/-- Adding the values of a list one after another to a start is the start plus their sum. -/
theorem foldl_add {ι : Type} (v : ι → EReal) (L : List ι) (r : EReal) :
    L.foldl (fun a n => a + v n) r = r + (L.map v).sum := by
  induction L generalizing r with
  | nil => simp
  | cons x L ih => rw [List.foldl_cons, ih, List.map_cons, List.sum_cons, add_assoc]

/-- Sliding a row under a window as wide as the row, from the right edge: the terms that fall inside are the entries up
    to the window's last position. -/
theorem sum_slide (f : Fin 4096 → EReal) (n : Fin 4096) :
    (∑ w : Fin 4096, if h : 4095 ≤ n.val + w.val ∧ n.val + w.val - 4095 < 4096 then f ⟨n.val + w.val - 4095, h.2⟩ else 0)
      = ∑ k : Fin 4096, if k.val ≤ n.val then f k else 0 := by
  have hn := n.isLt
  rw [← Finset.sum_filter_add_sum_filter_not Finset.univ (fun w : Fin 4096 => 4095 ≤ n.val + w.val),
    ← Finset.sum_filter_add_sum_filter_not Finset.univ (fun k : Fin 4096 => k.val ≤ n.val)
      (fun k => if k.val ≤ n.val then f k else 0)]
  congr 1
  · refine Finset.sum_bij' (fun w _ => ⟨(n.val + w.val - 4095) % 4096, Nat.mod_lt _ (by decide)⟩)
      (fun k _ => ⟨(k.val + 4095 - n.val) % 4096, Nat.mod_lt _ (by decide)⟩) ?_ ?_ ?_ ?_ ?_
    · intro w hw
      have := w.isLt
      simp only [Finset.mem_filter, Finset.mem_univ, true_and] at hw ⊢
      omega
    · intro k hk
      have := k.isLt
      simp only [Finset.mem_filter, Finset.mem_univ, true_and] at hk ⊢
      omega
    · intro w hw
      have := w.isLt
      simp only [Finset.mem_filter, Finset.mem_univ, true_and] at hw
      apply Fin.ext
      simp only []
      omega
    · intro k hk
      have := k.isLt
      simp only [Finset.mem_filter, Finset.mem_univ, true_and] at hk
      apply Fin.ext
      simp only []
      omega
    · intro w hw
      have := w.isLt
      simp only [Finset.mem_filter, Finset.mem_univ, true_and] at hw
      rw [dif_pos ⟨hw, by omega⟩, if_pos (by simp only []; omega)]
      exact congrArg f (Fin.ext (by simp only []; omega))
  · rw [Finset.sum_eq_zero, Finset.sum_eq_zero]
    · intro k hk
      simp only [Finset.mem_filter, Finset.mem_univ, true_and] at hk
      rw [if_neg hk]
    · intro w hw
      simp only [Finset.mem_filter, Finset.mem_univ, true_and] at hw
      rw [dif_neg (fun h => hw h.1)]

/-- The window's shape: one row, as wide as the array's. -/
abbrev Window : Shape := ⟨2, ![1, 4096]⟩

/-- The host's windowed sum along the second axis of a `[4, 4096]` array, started at zero and padded on the left by
    `4095` zeros, holds at `(b, n)` the sum of row `b` up to `n`. -/
theorem window_sum (x : (⟨2, ![4, 4096]⟩ : Shape).Idx → EReal)
    (h : (⟨2, ![4, 4096]⟩ : Shape).ReduceWindows (![1, 4096] : Fin 2 → Nat) ![1, 1] ![0, 4095] ![0, 0] ⟨2, ![4, 4096]⟩)
    (b : Fin 4) (n : Fin 4096) :
    Ideal.hostReduceWindowAdd (![1, 4096] : Fin 2 → Nat) ![1, 1] ![0, 4095] ![0, 0] h x 0 (ix2 b n)
      = ∑ k : Fin 4096, if k.val ≤ n.val then x (ix2 b k) else 0 := by
  have hb := b.isLt
  unfold Ideal.hostReduceWindowAdd Host.reduceWindow
  dsimp only
  rw [foldl_add, zero_add, ← Fin.sum_univ_def, ← sum_slide fun k => x (ix2 b k)]
  have slide := Equiv.sum_comp Window.rowMajor.symm
    (fun q : Window.Idx =>
      if h : 4095 ≤ n.val + (q 1).val ∧ n.val + (q 1).val - 4095 < 4096 then x (ix2 b ⟨n.val + (q 1).val - 4095, h.2⟩) else 0)
  rw [sum_idx2, Fin.sum_univ_one] at slide
  refine Eq.trans (Finset.sum_congr rfl fun i _ => ?_) slide
  have hq : (Window.rowMajor.symm i 0).val < 1 := (Window.rowMajor.symm i 0).isLt
  split
  · next hin =>
    have h1 := hin 1
    change 4095 ≤ n.val * 1 + (Window.rowMajor.symm i 1).val ∧ n.val * 1 + (Window.rowMajor.symm i 1).val - 4095 < 4096 at h1
    rw [Nat.mul_one] at h1
    rw [dif_pos h1]
    refine congrArg x (funext fun a => Fin.ext ?_)
    match a with
    | ⟨0, _⟩ => show b.val * 1 + (Window.rowMajor.symm i 0).val - 0 = b.val; omega
    | ⟨1, _⟩ => show n.val * 1 + (Window.rowMajor.symm i 1).val - 4095 = n.val + (Window.rowMajor.symm i 1).val - 4095; omega
  · next hin =>
    rw [dif_neg]
    intro h1
    refine hin fun a => ?_
    match a with
    | ⟨0, _⟩ => show 0 ≤ b.val * 1 + (Window.rowMajor.symm i 0).val ∧ b.val * 1 + (Window.rowMajor.symm i 0).val - 0 < 4; omega
    | ⟨1, _⟩ => show 4095 ≤ n.val * 1 + (Window.rowMajor.symm i 1).val ∧ n.val * 1 + (Window.rowMajor.symm i 1).val - 4095 < 4096; omega

/-- The entry `l` of lane `r` in a row of `32` lanes of `128`. -/
abbrev lane (r : Fin 32) (l : Fin 128) : Fin 4096 := ⟨r.val * 128 + l.val, by omega⟩

/-- A sum over a row is the sum over its lanes of the sums over a lane. -/
theorem sum_lanes (g : Fin 4096 → EReal) : ∑ k, g k = ∑ r : Fin 32, ∑ l : Fin 128, g (lane r l) := by
  rw [← Fintype.sum_prod_type' fun (r : Fin 32) (l : Fin 128) => g (lane r l)]
  refine (Fintype.sum_equiv (finProdFinEquiv (m := 32) (n := 128)) _ _ fun p => congrArg g (Fin.ext ?_)).symm
  show p.1.val * 128 + p.2.val = p.2.val + 128 * p.1.val
  omega

/-- The running sum of a row at entry `l` of lane `r`: the running sum within the lane, the lane's entries weighed by
    whether they come at or before `l`, plus every lane's whole sum weighed by whether the lane comes before `r`. -/
theorem running_sum (f : Fin 4096 → EReal) (r : Fin 32) (l : Fin 128) :
    (∑ k : Fin 4096, if k.val ≤ (lane r l).val then f k else 0)
      = ∑ j : Fin 128, f (lane r j) * (if j.val ≤ l.val then 1 else 0)
        + ∑ q : Fin 32, (if q.val < r.val then 1 else 0) * ∑ j : Fin 128, f (lane q j) := by
  rw [sum_lanes, ← Finset.sum_ite_eq' Finset.univ r
      (fun q => ∑ j : Fin 128, f (lane q j) * (if j.val ≤ l.val then (1 : EReal) else 0)) |>.trans (if_pos (Finset.mem_univ r)),
    ← Finset.sum_add_distrib]
  refine Finset.sum_congr rfl fun q _ => ?_
  have hl := l.isLt
  rcases lt_trichotomy q.val r.val with h | h | h
  · rw [if_neg (fun e => by rw [e] at h; exact lt_irrefl _ h), if_pos h, zero_add, one_mul]
    refine Finset.sum_congr rfl fun j _ => if_pos ?_
    have := j.isLt
    simp only []; omega
  · obtain rfl := Fin.ext h
    rw [if_pos rfl, if_neg (lt_irrefl _), zero_mul, add_zero]
    refine Finset.sum_congr rfl fun j _ => ?_
    by_cases hj : j.val ≤ l.val
    · rw [if_pos hj, mul_one, if_pos (by simp only []; omega)]
    · rw [if_neg hj, mul_zero, if_neg (by simp only []; omega)]
  · rw [if_neg (fun e => by rw [e] at h; exact lt_irrefl _ h), if_neg (by omega), zero_mul, add_zero]
    refine Finset.sum_eq_zero fun j _ => if_neg ?_
    have := j.isLt
    simp only []; omega

end Cert.Sums
-- ==== Proof.Block.lean ====
/-
  What one block of the kernel computes, entry by entry, from the blocks it reads: the logits, the hard decisions and
  the segment numbers of `4096` tokens laid out as `32` lanes of `128`.
-/
module

public import proofs.«01_k».proof.Proof.Gen.KernelIdeal.Frame
public import proofs.«01_k».proof.Proof.Consts
public import proofs.«01_k».proof.Proof.Spec
public import proofs.«01_k».proof.Proof.Sums
public import Idealize.ShloMosaic.Lib.Pipeline.ValueKit

@[expose] public section

set_option maxRecDepth 16384

noncomputable section

namespace Cert.Block

open Idealize.ShloMosaic Idealize.ShloMosaic.TcCoe Cert.KernelIdeal Cert.KernelIdeal.Gen Cert.Spec Cert.Sums

variable (x0 : FVec Ideal S4096x1024 .f32) (x2 : FVec Ideal S1024x256 .f32) (x3 : FVec Ideal S1x256 .f32)
  (x4 : FVec Ideal S256x1 .f32) (x5 : FVec Ideal S1x1 .f32)

/-- The block's logits: the two layers of the predictor applied to the token at entry `l` of lane `r`. -/
theorem logits (r : Fin 32) (l : Fin 128) :
    k0_pay4 (F := Ideal) (k0_pay2 x0 x2 x3 x4) (k0_pay3 x5) (ix2 r l)
      = ∑ h : Fin 256, gelu (∑ d : Fin 1024, x0 (ix2 (lane r l) d) * x2 (ix2 d h) + x3 (ix2 0 h)) * x4 (ix2 h 0)
        + x5 (ix2 0 0) := by
  pointwise [k0_pay4, k0_pay2, k0_pay3]
  simp only [Consts.inv_sqrt2, gelu, lane, Ideal.erf_def]

/-- The block's probabilities are the logistic function of its logits. -/
theorem probs (u v : FVec Ideal S32x128 .f32) (r : Fin 32) (l : Fin 128) :
    k0_pay5 (F := Ideal) u v (ix2 r l) = Ideal.logistic (k0_pay4 (F := Ideal) u v (ix2 r l)) := by
  pointwise [k0_pay5, k0_pay4]

/-- A truth value widened to a word and read as a number is `1` or `0`. -/
theorem toReal_ofBool (p : Prop) [Decidable p] :
    ((((BitVec.ofBool (decide p)).setWidth 32).toInt : ℝ) : EReal) = if p then 1 else 0 := by
  by_cases h : p <;> simp [h]

/-- The block's hard decisions. -/
theorem heads (u v : FVec Ideal S32x128 .f32) (r : Fin 32) (l : Fin 128) :
    k0_pay6 (F := Ideal) u v (ix2 r l) = hard (Ideal.logistic (k0_pay4 (F := Ideal) u v (ix2 r l))) := by
  pointwise [k0_pay6, k0_pay5, k0_pay4]
  exact toReal_ofBool _

/-- Comparing two lane numbers as signed words, widened and read signed, is comparing the numbers. -/
theorem lane_before : ∀ r q : Fin 32,
    ((IntOp.cmpi .sgt (BitVec.ofNat 32 r.val) (BitVec.ofNat 32 q.val)).setWidth 32).toInt = if q.val < r.val then 1 else 0 := by
  decide +kernel

/-- The block's segment numbers, from its hard decisions `g`, the table of which lane entries come at or before which,
    the start `0` of the count and the mask. -/
theorem segments (u v : FVec Ideal S32x128 .f32) (T : FVec Ideal S128x128 .bf16)
    (hT : ∀ i j : Fin 128, T (ix2 i j) = if i.val ≤ j.val then 1 else 0) (M : FVec Ideal S32x128 .f32)
    (g : Fin 4096 → EReal) (hg : ∀ r l, k0_pay6 (F := Ideal) u v (ix2 r l) = g (lane r l)) (r : Fin 32) (l : Fin 128) :
    k0_pay7 (F := Ideal) u v T (0 : EReal) M (ix2 r l)
      = Ideal.fptosi 32 (((∑ k : Fin 4096, if k.val ≤ (lane r l).val then g k else 0) - 1) * M (ix2 r l)
          - (1 - M (ix2 r l))) := by
  rw [running_sum, sub_eq_add_neg _ (1 : EReal)]
  pointwise [k0_pay7]
  have before : ∀ q : Fin 32, FloatOps.sitofp (F := Ideal) .f32
      ((IntOp.cmpi .sgt (BitVec.ofNat 32 r.val) (BitVec.ofNat 32 q.val)).setWidth 32) = if q.val < r.val then 1 else 0 := by
    intro q
    show ((((IntOp.cmpi .sgt (BitVec.ofNat 32 r.val) (BitVec.ofNat 32 q.val)).setWidth 32).toInt : ℝ) : EReal) = _
    rw [lane_before]
    split <;> simp
  have last : ∀ j : Fin 128, j.val ≤ (127 : Fin 128).val := fun j => Nat.le_of_lt_succ j.isLt
  simp only [hg, hT, lane, before, if_pos (last _), mul_one, zero_sub]
  rfl

end Cert.Block

end
-- ==== Proof.Table.lean ====
/-
  The constant table of the kernel's host prefix: 128 × 128 words, `1.0` on and above the diagonal and `0.0` below it.
-/
module

public import proofs.«01_k».proof.KernelIdeal
public import Idealize.ShloMosaic.Lib.ValueIdx

@[expose] public section

set_option maxRecDepth 65536

noncomputable section

namespace Cert.Table

open Idealize.ShloMosaic Cert.KernelIdeal

/-- Entry `128·i + j` of the table is the word of `1.0` if `i ≤ j`, and the zero word otherwise. -/
theorem entry : ∀ i j : Fin 128,
    lit0t (128 * i.val + j.val) = if i.val ≤ j.val then 0x3F800000#32 else 0x00000000#32 := by
  decide +kernel

end Cert.Table

end
-- ==== Proof.Layout.lean ====
/-
  The kernel's reshapes read at an index. The host lays the batch's tokens out one after another and cuts each sequence
  of `4096` tokens into `32` lanes of `128`, so a `[128, 128]` array holds the lanes of the four sequences in turn.
-/
module

public import proofs.«01_k».proof.KernelIdeal
public import proofs.«01_k».proof.Proof.Sums
public import Idealize.ShloMosaic.Lib.Pipeline.Value
public import Idealize.ShloMosaic.Lib.ValueIdx
public import Idealize.ShloMosaic.Lib.Pointwise

@[expose] public section

namespace Cert.Layout

open Idealize.ShloMosaic Cert.KernelIdeal Cert.Sums

variable {α : Type}

/-- Token `p` of sequence `b` is row `4096 b + p` of the flattened batch. -/
theorem tokens (x : S4x4096x1024.Idx → α) (h : S4x4096x1024.ShapeCasts S16384x1024) (b : Fin 4) (p : Fin 4096) (d : Fin 1024) :
    shapeCast S16384x1024 x h (ix2 ⟨b.val * 4096 + p.val, by omega⟩ d) = x (ix3 b p d) :=
  shapeCast_apply x h _ _ (by
    rw [Shape.rowMajor_val_three, Shape.rowMajor_val_two]
    rfl)

/-- Lane `r` of sequence `b` is row `32 b + r` of the array of lanes. -/
theorem lanes (x : S4x4096.Idx → α) (h : S4x4096.ShapeCasts S128x128) (b : Fin 4) (r : Fin 32) (l : Fin 128) :
    shapeCast S128x128 x h (ix2 ⟨b.val * 32 + r.val, by omega⟩ l) = x (ix2 b (lane r l)) :=
  shapeCast_apply x h _ _ (by
    rw [Shape.rowMajor_val_two, Shape.rowMajor_val_two]
    show b.val * 4096 + (r.val * 128 + l.val) = (b.val * 32 + r.val) * 128 + l.val
    omega)

/-- The first bias as a row. -/
theorem bias₁ (x : S256.Idx → α) (h : S256.ShapeCasts S1x256) (j : Fin 256) :
    shapeCast S1x256 x h (ix2 0 j) = x (ix1 j) :=
  shapeCast_apply x h _ _ (by
    rw [Shape.rowMajor_val_one, Shape.rowMajor_val_two]
    show j.val = 0 * 256 + j.val
    omega)

/-- The second bias as a `[1, 1]` array. -/
theorem bias₂ (x : S1.Idx → α) (h : S1.ShapeCasts S1x1) :
    shapeCast S1x1 x h (ix2 0 0) = x (ix1 0) :=
  shapeCast_apply x h _ _ (by
    rw [Shape.rowMajor_val_one, Shape.rowMajor_val_two]
    rfl)

end Cert.Layout
-- ==== Proof.Reads.lean ====
/-
  What the kernel's blocks hold, entry by entry, in terms of the arguments: block `t` is about sequence `t` of the batch.
-/
module

public import proofs.«01_k».proof.Proof.Gen.KernelIdeal.Frame
public import proofs.«01_k».proof.Proof.Table
public import Idealize.ShloMosaic.Lib.Pipeline.ValueKit
public import Idealize.ShloMosaic.Lib.Claim
public import proofs.«01_k».proof.Proof.Consts
public import proofs.«01_k».proof.Proof.Layout

@[expose] public section

set_option maxRecDepth 16384

noncomputable section

namespace Cert.Reads

open Idealize.ShloMosaic Idealize.ShloMosaic.TcCoe Cert.KernelIdeal Cert.KernelIdeal.Gen Cert.Sums

variable (m : (ℓ : Loc nD τ sig) → Buf (Elt Ideal) ℓ) (c : Dev nD)

/-- The blocks of grid point `t`: the tokens', the masks' and the results' blocks are the `t`-th ones, the weights' the
    whole arrays. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] :=
  (by decide +kernel : ∀ t : Fin grid0.N, _)

/-- The sequence a grid point is about. -/
abbrev seq (t : Fin cfg0.N) : Fin 4 := ⟨t.val, t.isLt⟩

/-- The flattened batch the kernel is given. -/
theorem array_tokens : V m c main_v0
    = shapeCast S16384x1024 (m ((c.tc : Thread nD τ).loc main_arg0)) shapeCasts_S4x4096x1024_S16384x1024 := rfl

/-- The mask's lanes. -/
theorem array_masks : V m c main_v1
    = shapeCast S128x128 (m ((c.tc : Thread nD τ).loc main_arg1)) shapeCasts_S4x4096_S128x128 := rfl

/-- The first bias as a row. -/
theorem array_bias₁ : V m c main_v2
    = shapeCast S1x256 (m ((c.tc : Thread nD τ).loc main_arg3)) shapeCasts_S256_S1x256 := rfl

/-- The second bias as a `[1, 1]` array. -/
theorem array_bias₂ : V m c main_v3
    = shapeCast S1x1 (m ((c.tc : Thread nD τ).loc main_arg5)) shapeCasts_S1_S1x1 := rfl

/-- The table the host makes from its literal. -/
theorem array_table : V m c main_v4 = fun i => Ideal.ofBits .f32 (lit0 (S128x128.rowMajor i)) := rfl

/-- The tokens' block: token `p` of the sequence. -/
theorem tokens (t : Fin cfg0.N) (p : Fin 4096) (d : Fin 1024) :
    iblk m c 0 t (ix2 p d) = m ((c.tc : Thread nD τ).loc main_arg0) (ix3 (seq t) p d) := by
  have ht : t.val < 4 := t.isLt
  have e : (win0_0.blk t).view.emb (ix2 p d) = ix2 ⟨t.val * 4096 + p.val, by omega⟩ d := by blk_ext [idx t]
  blk_simp [iblk]
  rw [array_tokens]
  exact (congrArg _ e).trans (Layout.tokens _ _ (seq t) p d)

/-- The masks' block: the entry `l` of lane `r` is that token's mask. -/
theorem masks (t : Fin cfg0.N) (r : Fin 32) (l : Fin 128) :
    iblk m c 1 t (ix2 r l) = m ((c.tc : Thread nD τ).loc main_arg1) (ix2 (seq t) (lane r l)) := by
  have ht : t.val < 4 := t.isLt
  have e : (win0_1.blk t).view.emb (ix2 r l) = ix2 ⟨t.val * 32 + r.val, by omega⟩ l := by blk_ext [idx t]
  blk_simp [iblk]
  rw [array_masks]
  exact (congrArg _ e).trans (Layout.lanes _ _ (seq t) r l)

/-- The first weights. -/
theorem weights₁ (t : Fin cfg0.N) (d : Fin 1024) (h : Fin 256) :
    iblk m c 2 t (ix2 d h) = m ((c.tc : Thread nD τ).loc main_arg2) (ix2 d h) := by
  blk_point [iblk, V, idx t]

/-- The first bias. -/
theorem bias₁ (t : Fin cfg0.N) (h : Fin 256) :
    iblk m c 3 t (ix2 0 h) = m ((c.tc : Thread nD τ).loc main_arg3) (ix1 h) := by
  have e : (win0_3.blk t).view.emb (ix2 0 h) = ix2 0 h := by blk_ext [idx t]
  blk_simp [iblk]
  rw [array_bias₁]
  exact (congrArg _ e).trans (Layout.bias₁ _ _ h)

/-- The second weights. -/
theorem weights₂ (t : Fin cfg0.N) (h : Fin 256) :
    iblk m c 4 t (ix2 h 0) = m ((c.tc : Thread nD τ).loc main_arg4) (ix2 h 0) := by
  blk_point [iblk, V, idx t]

/-- The second bias. -/
theorem bias₂ (t : Fin cfg0.N) :
    iblk m c 5 t (ix2 0 0) = m ((c.tc : Thread nD τ).loc main_arg5) (ix1 0) := by
  have e : (win0_5.blk t).view.emb (ix2 0 0) = ix2 0 0 := by blk_ext [idx t]
  blk_simp [iblk]
  rw [array_bias₂]
  exact (congrArg _ e).trans (Layout.bias₂ _ _)

/-- The table as the program holds it, before it is read from a block. -/
theorem table_literal (i j : Fin 128) :
    Ideal.ofBits .f32 (lit0 (S128x128.rowMajor (ix2 i j))) = if i.val ≤ j.val then 1 else 0 := by
  have e : lit0 (S128x128.rowMajor (ix2 i j)) = lit0t (128 * i.val + j.val) := by
    refine congrArg lit0t ((Shape.rowMajor_val_two _).trans ?_)
    show i.val * 128 + j.val = 128 * i.val + j.val
    omega
  rw [e, Table.entry]
  split
  · exact Consts.ofBits_one
  · exact Consts.ofBits_zero

/-- The table's block: `1` where the row's number is at most the column's, `0` elsewhere. -/
theorem table (t : Fin cfg0.N) (i j : Fin 128) :
    iblk m c 6 t (ix2 i j) = (if i.val ≤ j.val then (1 : EReal) else 0) := by
  have e : (win0_6.blk t).view.emb (ix2 i j) = ix2 i j := by blk_ext [idx t]
  blk_simp [iblk]
  rw [array_table]
  exact (congrArg (fun i => Ideal.ofBits .f32 (lit0 (S128x128.rowMajor i))) e).trans (table_literal i j)

end Cert.Reads

end
-- ==== Proof.Arrays.lean ====
/-
  What the kernel's four result arrays hold when it ends: the logits, the probabilities, the hard decisions and the
  segment numbers of every token, the sequences cut into lanes.
-/
module

public import proofs.«01_k».proof.Proof.Block
public import proofs.«01_k».proof.Proof.Reads

@[expose] public section

set_option maxRecDepth 16384

noncomputable section

namespace Cert.Arrays

open Idealize.ShloMosaic Idealize.ShloMosaic.TcCoe Cert.KernelIdeal Cert.KernelIdeal.Gen Cert.Spec Cert.Sums Cert.Reads

variable (m : (ℓ : Loc nD τ sig) → Buf (Elt Ideal) ℓ) (c : Dev nD)

/-- The kernel's arguments: the tokens. -/
abbrev X : FVec Ideal S4x4096x1024 .f32 := m ((c.tc : Thread nD τ).loc main_arg0)
/-- The mask. -/
abbrev Msk : FVec Ideal S4x4096 .f32 := m ((c.tc : Thread nD τ).loc main_arg1)
/-- The first weights. -/
abbrev W₁ : FVec Ideal S1024x256 .f32 := m ((c.tc : Thread nD τ).loc main_arg2)
/-- The first bias. -/
abbrev B₁ : FVec Ideal S256 .f32 := m ((c.tc : Thread nD τ).loc main_arg3)
/-- The second weights. -/
abbrev W₂ : FVec Ideal S256x1 .f32 := m ((c.tc : Thread nD τ).loc main_arg4)
/-- The second bias. -/
abbrev B₂ : FVec Ideal S1 .f32 := m ((c.tc : Thread nD τ).loc main_arg5)

/-- The logits of all tokens. -/
def logits : FVec Ideal S4x4096 .f32 := fun i => logit (X m c) (W₁ m c) (B₁ m c) (W₂ m c) (B₂ m c) (i 0) (i 1)
/-- The probabilities of all tokens. -/
def probs : FVec Ideal S4x4096 .f32 := fun i => prob (X m c) (W₁ m c) (B₁ m c) (W₂ m c) (B₂ m c) (i 0) (i 1)
/-- The hard decisions of all tokens. -/
def heads : FVec Ideal S4x4096 .f32 := fun i => head (X m c) (W₁ m c) (B₁ m c) (W₂ m c) (B₂ m c) (i 0) (i 1)
/-- The segment numbers of all tokens. -/
def segments : IVec S4x4096 32 := fun i => segment (X m c) (Msk m c) (W₁ m c) (B₁ m c) (W₂ m c) (B₂ m c) (i 0) (i 1)

/-! ## One block -/

/-- What the kernel computes of block `t` before the second bias is added. -/
abbrev dense (t : Fin cfg0.N) : FVec Ideal S32x128 .f32 :=
  k0_pay2 (F := Ideal) (iblk m c 0 t) (iblk m c 2 t) (iblk m c 3 t) (iblk m c 4 t)

/-- The second bias, spread over block `t`. -/
abbrev spread (t : Fin cfg0.N) : FVec Ideal S32x128 .f32 := k0_pay3 (F := Ideal) (iblk m c 5 t)

/-- The block's logits are those of its sequence. -/
theorem block_logits (t : Fin cfg0.N) (r : Fin 32) (l : Fin 128) :
    k0_pay4 (F := Ideal) (dense m c t) (spread m c t) (ix2 r l)
      = logit (X m c) (W₁ m c) (B₁ m c) (W₂ m c) (B₂ m c) (seq t) (lane r l) := by
  refine (Block.logits _ _ _ _ _ r l).trans ?_
  unfold logit Spec.hidden
  rw [bias₂]
  refine congrArg (· + _) (Finset.sum_congr rfl fun h _ => ?_)
  rw [weights₂, bias₁]
  refine congrArg (fun z => gelu (z + _) * _) (Finset.sum_congr rfl fun d _ => ?_)
  rw [tokens, weights₁]

/-- The block's probabilities are those of its sequence. -/
theorem block_probs (t : Fin cfg0.N) (r : Fin 32) (l : Fin 128) :
    k0_pay5 (F := Ideal) (dense m c t) (spread m c t) (ix2 r l)
      = prob (X m c) (W₁ m c) (B₁ m c) (W₂ m c) (B₂ m c) (seq t) (lane r l) :=
  (Block.probs _ _ r l).trans (congrArg Ideal.logistic (block_logits m c t r l))

/-- The block's hard decisions are those of its sequence. -/
theorem block_heads (t : Fin cfg0.N) (r : Fin 32) (l : Fin 128) :
    k0_pay6 (F := Ideal) (dense m c t) (spread m c t) (ix2 r l)
      = head (X m c) (W₁ m c) (B₁ m c) (W₂ m c) (B₂ m c) (seq t) (lane r l) :=
  (Block.heads _ _ r l).trans (congrArg (fun z => hard (Ideal.logistic z)) (block_logits m c t r l))

/-- The block's segment numbers are those of its sequence. -/
theorem block_segments (t : Fin cfg0.N) (r : Fin 32) (l : Fin 128) :
    k0_pay7 (F := Ideal) (dense m c t) (spread m c t) (iblk m c 6 t) (0 : EReal) (iblk m c 1 t) (ix2 r l)
      = segment (X m c) (Msk m c) (W₁ m c) (B₁ m c) (W₂ m c) (B₂ m c) (seq t) (lane r l) := by
  refine (Block.segments _ _ _ (table m c t) _ _ (block_heads m c t) r l).trans ?_
  unfold Spec.segment Spec.count
  rw [masks]

/-! ## The arrays -/

/-- An array of tokens cut into lanes, read where block `t` has the entry `l` of lane `r`. -/
theorem lanes_at {α : Type} (R : S4x4096.Idx → α) (t : Fin cfg0.N) (r : Fin 32) (l : Fin 128) (i : S128x128.Idx)
    (h : i = ix2 ⟨(seq t).val * 32 + r.val, by omega⟩ l) :
    R (ix2 (seq t) (lane r l)) = shapeCast S128x128 R shapeCasts_S4x4096_S128x128 i := by
  rw [h]
  exact (Layout.lanes R _ (seq t) r l).symm

/-- The logits' array: the logits of all tokens, cut into lanes. -/
theorem final_logits : (dats m 0 c).arrAt 7 (cfgs 0).N = shapeCast S128x128 (logits m c) shapeCasts_S4x4096_S128x128 := by
  refine (dats m 0 c).arrAt_eq_of_covers 7 _ (by decide +kernel) fun t _ y => ?_
  have e : ∀ (r : Fin 32) (l : Fin 128), (win0_7.blk t).view.emb (ix2 r l) = ix2 ⟨(seq t).val * 32 + r.val, by omega⟩ l := by
    intro r l
    blk_ext [idx t]
  obtain ⟨r, l, rfl⟩ : ∃ (r : Fin 32) (l : Fin 128), y = ix2 r l := ⟨y 0, y 1, (ix2_eta y).symm⟩
  rw [after0_7]
  dsimp only [outsAt0]
  frame_out
  exact (block_logits m c t r l).trans (lanes_at (logits m c) t r l _ (e r l))

/-- The probabilities' array: the probabilities of all tokens, cut into lanes. -/
theorem final_probs : (dats m 0 c).arrAt 8 (cfgs 0).N = shapeCast S128x128 (probs m c) shapeCasts_S4x4096_S128x128 := by
  refine (dats m 0 c).arrAt_eq_of_covers 8 _ (by decide +kernel) fun t _ y => ?_
  have e : ∀ (r : Fin 32) (l : Fin 128), (win0_8.blk t).view.emb (ix2 r l) = ix2 ⟨(seq t).val * 32 + r.val, by omega⟩ l := by
    intro r l
    blk_ext [idx t]
  obtain ⟨r, l, rfl⟩ : ∃ (r : Fin 32) (l : Fin 128), y = ix2 r l := ⟨y 0, y 1, (ix2_eta y).symm⟩
  rw [after0_8]
  dsimp only [outsAt0]
  frame_out
  exact (block_probs m c t r l).trans (lanes_at (probs m c) t r l _ (e r l))

/-- The hard decisions' array: the hard decisions of all tokens, cut into lanes. -/
theorem final_heads : (dats m 0 c).arrAt 9 (cfgs 0).N = shapeCast S128x128 (heads m c) shapeCasts_S4x4096_S128x128 := by
  refine (dats m 0 c).arrAt_eq_of_covers 9 _ (by decide +kernel) fun t _ y => ?_
  have e : ∀ (r : Fin 32) (l : Fin 128), (win0_9.blk t).view.emb (ix2 r l) = ix2 ⟨(seq t).val * 32 + r.val, by omega⟩ l := by
    intro r l
    blk_ext [idx t]
  obtain ⟨r, l, rfl⟩ : ∃ (r : Fin 32) (l : Fin 128), y = ix2 r l := ⟨y 0, y 1, (ix2_eta y).symm⟩
  rw [after0_9]
  dsimp only [outsAt0]
  frame_out
  exact (block_heads m c t r l).trans (lanes_at (heads m c) t r l _ (e r l))

/-- The segment numbers' array: the segment numbers of all tokens, cut into lanes. -/
theorem final_segments : (dats m 0 c).arrAt 10 (cfgs 0).N = shapeCast S128x128 (segments m c) shapeCasts_S4x4096_S128x128 := by
  refine (dats m 0 c).arrAt_eq_of_covers 10 _ (by decide +kernel) fun t _ y => ?_
  have e : ∀ (r : Fin 32) (l : Fin 128), (win0_10.blk t).view.emb (ix2 r l) = ix2 ⟨(seq t).val * 32 + r.val, by omega⟩ l := by
    intro r l
    blk_ext [idx t]
  obtain ⟨r, l, rfl⟩ : ∃ (r : Fin 32) (l : Fin 128), y = ix2 r l := ⟨y 0, y 1, (ix2_eta y).symm⟩
  rw [after0_10]
  dsimp only [outsAt0]
  frame_out
  rw [show FloatOps.ofBits (F := Ideal) .f32 0x00000000#32 = (0 : EReal) from Consts.ofBits_zero]
  exact (block_segments m c t r l).trans (lanes_at (segments m c) t r l _ (e r l))

end Cert.Arrays

end
-- ==== Proof.KernelRun.lean ====
/-
  The kernel's run: it ends with its four results the logits, the probabilities, the hard decisions and the segment
  numbers of every token.
-/
module

public import proofs.«01_k».proof.Proof.Arrays

@[expose] public section

set_option maxRecDepth 16384

noncomputable section

namespace Cert.KernelRun

open Idealize.ShloMosaic Idealize.ShloMosaic.TcCoe Idealize.SL.Sem Cert.KernelIdeal Cert.KernelIdeal.Gen Cert.Arrays

variable (m : (ℓ : Loc nD τ sig) → Buf (Elt Ideal) ℓ) (ρ : Dev nD → PrngReg)

/-- After the region a result's array holds what the blocks left in it. -/
theorem array_left (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr (cfgs 0).spec (by decide +kernel) c (V0 m c) (fun w => (dats m 0 c).arrAt w (cfgs 0).N) w

/-- The lanes put back into sequences. -/
theorem back {α : Type} (R : S4x4096.Idx → α) (y : S128x128.Idx → α) (h : y = shapeCast S128x128 R shapeCasts_S4x4096_S128x128) :
    shapeCast S4x4096 y shapeCasts_S128x128_S4x4096 = R := by
  rw [h]
  exact shapeCast_shapeCast R _ _

/-- Every run of the kernel ends with its results at what the arguments determine. -/
theorem run : θ_run defs (onTc (τ := τ) (main (F := Ideal))) ⟨m, fun _ => 0, ρ⟩ (fun r => ∀ c : Dev nD,
    r.2.mem ((c.tc : Thread nD τ).loc main_v6) = logits m c
    ∧ r.2.mem ((c.tc : Thread nD τ).loc main_v7) = probs m c
    ∧ r.2.mem ((c.tc : Thread nD τ).loc main_v8) = heads m c
    ∧ r.2.mem ((c.tc : Thread nD τ).loc main_v9) = segments m c) := by
  run_from run_main m ρ
  all_goals unfold Pipeline.afterTail₀
  all_goals simp only [List.flatten_cons, List.flatten_nil, List.append_nil]
  all_goals after_results_simp
  · exact back (logits m c) _ ((array_left m c 7).trans (final_logits m c))
  · exact back (probs m c) _ ((array_left m c 8).trans (final_probs m c))
  · exact back (heads m c) _ ((array_left m c 9).trans (final_heads m c))
  · exact back (segments m c) _ ((array_left m c 10).trans (final_segments m c))

end Cert.KernelRun

end
-- ==== Proof.Reference.lean ====
/-
  The reference's results, entry by entry: the logits, the probabilities, the hard decisions and the segment numbers.
  The reference writes the exact GELU with the complementary error function, the logistic function by its formula, the
  hard decision with a straight-through term that cancels, and the running count with the host's windowed sum.
-/
module

public import proofs.«01_k».proof.Proof.Gen.ReferenceIdeal.Read
public import proofs.«01_k».proof.Proof.Consts
public import proofs.«01_k».proof.Proof.Spec
public import proofs.«01_k».proof.Proof.Sums

@[expose] public section

set_option maxRecDepth 16384

noncomputable section

namespace Cert.Reference

open Idealize.ShloMosaic Idealize.ShloMosaic.TcCoe Cert.ReferenceIdeal Cert.ReferenceIdeal.Read Cert.Spec

/-! ## The scalar identities -/

/-- The exact GELU with the complementary error function is the one with the error function. -/
theorem gelu_erfc (z : EReal) :
    Ideal.ofBits .f32 0x3F000000#32 * z * Ideal.erfc (Ideal.div (-z) (Ideal.sqrt (Ideal.ofBits .f32 0x40000000#32))) = gelu z := by
  have hpos : Real.sqrt 2 ≠ 0 := by positivity
  have e : Ideal.div (-z) (Ideal.sqrt (Ideal.ofBits .f32 0x40000000#32)) = -(z * (((Real.sqrt 2)⁻¹ : ℝ) : EReal)) := by
    rw [Consts.ofBits_two, Ideal.sqrt_coe, if_neg (by norm_num), Ideal.div_coe hpos, one_div, neg_mul]
  rw [e, Ideal.erfc_neg, gelu]

/-- The logistic function's values are real numbers. -/
theorem logistic_real (x : EReal) : ∃ r : ℝ, Ideal.logistic x = (r : EReal) := by
  induction x using EReal.rec with
  | bot => exact ⟨0, by rw [Ideal.logistic_bot]; rfl⟩
  | coe r => exact ⟨_, Ideal.logistic_coe r⟩
  | top => exact ⟨1, by rw [Ideal.logistic_top]; rfl⟩

/-- The straight-through term cancels: the hard decision plus a probability less that probability is the decision. -/
theorem straight_through (x : EReal) :
    ((((BitVec.ofBool (decide (Ideal.ofBits .f32 0x3F000000#32 < Ideal.logistic x))).toNat : ℝ) : EReal) + Ideal.logistic x)
        - Ideal.logistic x = hard (Ideal.logistic x) := by
  obtain ⟨r, hr⟩ := logistic_real x
  rw [hr, EReal.add_sub_cancel_right, hard]
  by_cases h : Ideal.ofBits .f32 0x3F000000#32 < (r : EReal) <;> simp [h]

/-! ## The results -/

variable (X : FVec Ideal S4x4096x1024 .f32) (M : FVec Ideal S4x4096 .f32) (W₁ : FVec Ideal S1024x256 .f32)
  (B₁ : FVec Ideal S256 .f32) (W₂ : FVec Ideal S256x1 .f32) (B₂ : FVec Ideal S1 .f32)

/-- The hidden units before their activation. -/
theorem hidden_apply (b : Fin 4) (n : Fin 4096) (h : Fin 256) :
    val_main_v3 (F := Ideal) X W₁ B₁ (ix3 b n h) = Spec.hidden X W₁ B₁ b n h := by
  rw [val_main_v3_apply, val_main_v0_apply, val_main_v2_apply, val_main_v1_apply, Spec.hidden, Ideal.addf_def]
  congr 1
  · refine Finset.sum_congr rfl fun d _ => ?_
    congr 1
    · exact congrArg X (funext fun a => by match a with | ⟨0, _⟩ => rfl | ⟨1, _⟩ => rfl | ⟨2, _⟩ => rfl)
    · exact congrArg W₁ (funext fun a => by match a with | ⟨0, _⟩ => rfl | ⟨1, _⟩ => rfl)
  · exact congrArg B₁ (funext fun a => by match a with | ⟨0, _⟩ => rfl)

/-- The activated hidden units. -/
theorem gelu_apply (b : Fin 4) (n : Fin 4096) (h : Fin 256) :
    val_main_v11 (F := Ideal) X W₁ B₁ (ix3 b n h) = gelu (Spec.hidden X W₁ B₁ b n h) := by
  rw [val_main_v11_apply, val_main_v5_apply, val_main_v4_apply, val_main_cst_apply, val_main_v10_apply, val_main_v9_apply,
    val_main_v6_apply, val_main_v8_apply, val_main_v7_apply, val_main_cst_0_apply, hidden_apply]
  exact gelu_erfc _

/-- The logits. -/
theorem logit_apply (b : Fin 4) (n : Fin 4096) :
    val_main_v16 (F := Ideal) X W₁ B₁ W₂ B₂ (ix2 b n) = logit X W₁ B₁ W₂ B₂ b n := by
  have hb := b.isLt
  have hn := n.isLt
  have e : idx_main_v16 (ix2 b n) = ix3 b n 0 := funext fun a => Fin.ext (by
    match a with
    | ⟨0, _⟩ => show (b.val * 4096 + n.val) / 4096 = b.val; omega
    | ⟨1, _⟩ => show (b.val * 4096 + n.val) / 1 % 4096 = n.val; omega
    | ⟨2, _⟩ => rfl)
  rw [val_main_v16_apply, e, val_main_v15_apply, val_main_v12_apply, val_main_v14_apply, val_main_v13_apply, logit, Ideal.addf_def]
  congr 1
  · refine Finset.sum_congr rfl fun h _ => ?_
    congr 1
    · rw [← gelu_apply]
      exact congrArg _ (funext fun a => by match a with | ⟨0, _⟩ => rfl | ⟨1, _⟩ => rfl | ⟨2, _⟩ => rfl)
    · exact congrArg W₂ (funext fun a => by match a with | ⟨0, _⟩ => rfl | ⟨1, _⟩ => rfl)
  · exact congrArg B₂ (funext fun a => by match a with | ⟨0, _⟩ => rfl)

/-- The probabilities. -/
theorem prob_apply (b : Fin 4) (n : Fin 4096) :
    val_main_v22 (F := Ideal) X W₁ B₁ W₂ B₂ (ix2 b n) = prob X W₁ B₁ W₂ B₂ b n := by
  rw [val_main_v22_apply, val_main_v21_apply, val_main_cst_2_apply, val_main_v20_apply, val_main_v19_apply,
    val_main_cst_1_apply, val_main_v18_apply, val_main_v17_apply, logit_apply]
  show Ideal.div (Ideal.ofBits .f32 0x3F800000#32) (Ideal.ofBits .f32 0x3F800000#32 + Ideal.exp (-_)) = _
  rw [Consts.ofBits_one]
  rfl

/-- The hard decisions. -/
theorem head_apply (b : Fin 4) (n : Fin 4096) :
    val_main_v27 (F := Ideal) X W₁ B₁ W₂ B₂ (ix2 b n) = head X W₁ B₁ W₂ B₂ b n := by
  rw [val_main_v27_apply, val_main_v26_apply, val_main_v25_apply, val_main_v24_apply, val_main_v23_apply,
    val_main_cst_3_apply, prob_apply]
  exact straight_through _

/-- The running count of the hard decisions. -/
theorem count_apply (b : Fin 4) (n : Fin 4096) :
    val_main_v28 (F := Ideal) X W₁ B₁ W₂ B₂ (ix2 b n) = Spec.count X W₁ B₁ W₂ B₂ b n := by
  have z : ∀ i, val_main_call0_call0_v0 (F := Ideal) i = (0 : EReal) := by
    intro i
    rw [val_main_call0_call0_v0_apply, val_main_call0_call0_cst_apply]
    exact Consts.ofBits_zero
  unfold val_main_v28 Host.reduceWindowAdd
  rw [z]
  refine (Sums.window_sum _ _ b n).trans (Finset.sum_congr rfl fun k _ => ?_)
  rw [head_apply]

/-- The segment numbers. -/
theorem segment_apply (b : Fin 4) (n : Fin 4096) :
    val_main_v37 (F := Ideal) X M W₁ B₁ W₂ B₂ (ix2 b n) = Spec.segment X M W₁ B₁ W₂ B₂ b n := by
  rw [val_main_v37_apply, val_main_v36_apply, val_main_v31_apply, val_main_v30_apply, count_apply, val_main_v29_apply,
    val_main_cst_4_apply, val_main_v35_apply, val_main_v34_apply, val_main_cst_6_apply, val_main_v33_apply,
    val_main_v32_apply, val_main_cst_5_apply, Spec.segment]
  show Ideal.fptosi 32 ((_ - Ideal.ofBits .f32 0x3F800000#32) * _ + Ideal.ofBits .f32 0xBF800000#32 * (Ideal.ofBits .f32 0x3F800000#32 - _)) = _
  rw [Consts.ofBits_one, Consts.ofBits_neg_one, neg_one_mul, ← sub_eq_add_neg]

end Cert.Reference

end
-- ==== Proof.Equation.lean ====
/-
  The equation of the two programs: on equal arguments the reference ends with the results the kernel ends with.
-/
module

public import proofs.«01_k».proof.Proof.KernelRun
public import proofs.«01_k».proof.Proof.Reference

@[expose] public section

set_option maxRecDepth 16384

noncomputable section

namespace Cert.Equation

open Idealize.ShloMosaic Idealize.ShloMosaic.TcCoe Cert.KernelIdeal Cert.ReferenceIdeal.Read Cert.Arrays

variable (m : (ℓ : Loc nD τ sig) → Buf (Elt Ideal) ℓ) (c : Dev nD)

/-- The logits agree. -/
theorem logits_eq : val_main_v16 (F := Ideal) (X m c) (W₁ m c) (B₁ m c) (W₂ m c) (B₂ m c) = logits m c :=
  funext fun i => (congrArg _ (ix2_eta i).symm).trans (Reference.logit_apply _ _ _ _ _ (i 0) (i 1))

/-- The probabilities agree. -/
theorem probs_eq : val_main_v22 (F := Ideal) (X m c) (W₁ m c) (B₁ m c) (W₂ m c) (B₂ m c) = probs m c :=
  funext fun i => (congrArg _ (ix2_eta i).symm).trans (Reference.prob_apply _ _ _ _ _ (i 0) (i 1))

/-- The hard decisions agree. -/
theorem heads_eq : val_main_v27 (F := Ideal) (X m c) (W₁ m c) (B₁ m c) (W₂ m c) (B₂ m c) = heads m c :=
  funext fun i => (congrArg _ (ix2_eta i).symm).trans (Reference.head_apply _ _ _ _ _ (i 0) (i 1))

/-- The segment numbers agree. -/
theorem segments_eq : val_main_v37 (F := Ideal) (X m c) (Msk m c) (W₁ m c) (B₁ m c) (W₂ m c) (B₂ m c) = segments m c :=
  funext fun i => (congrArg _ (ix2_eta i).symm).trans (Reference.segment_apply _ _ _ _ _ _ (i 0) (i 1))

end Cert.Equation

end
-- ==== Proof.lean ====
/-
  The certificate. The kernel as written, the kernel over the extended reals and the reference each leave their
  arguments and end at rest; the two forms of the kernel are one program with one constant named; and over the extended
  reals the kernel and the reference end with the same four results, whatever their arguments hold.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The reference leaves its arguments and ends with every semaphore counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The kernel over the extended reals is the kernel with its rounded `1/√2` read as the real number. -/
theorem named : Cert.preserves_Kernel_KernelIdeal :=
  IdealRules.named_const.statement Cert.KernelIdeal.κ "inv_sqrt2" .f32 0x3F3504F3#32 (((Real.sqrt 2)⁻¹ : ℝ) : EReal) rfl

/-- Over the extended reals the kernel and the reference, run on equal arguments, end with equal results. -/
theorem equation : Cert.algebraic_KernelIdeal_ReferenceIdeal (hKernelIdeal := Cert.KernelIdeal.Gen.facts)
    (hReferenceIdeal := Cert.ReferenceIdeal.Gen.facts) := by
  intro m ρ m' ρ' _ hagree
  refine ⟨Cert.Arrays.logits m, Cert.Arrays.probs m, Cert.Arrays.heads m, Cert.Arrays.segments m,
    (θ_run Cert.KernelIdeal.defs _ _).mono
      (fun _ h c => ⟨(h.1 c).1, (h.1 c).2.1, (h.1 c).2.2.1, (h.1 c).2.2.2, h.2 c⟩)
      (θ_run_and (Cert.KernelRun.run m ρ) (Cert.KernelIdeal.Gen.unchanged m ρ)),
    (θ_run Cert.ReferenceIdeal.defs _ _).mono (fun _ h c => ?_) (Cert.ReferenceIdeal.Value.run (F := Ideal) m' ρ')⟩
  obtain ⟨a0, a1, a2, a3, a4, a5⟩ := hagree c
  obtain ⟨h0, h1, h2, h3, h4⟩ := h c
  refine ⟨h0.trans ?_, h1.trans ?_, h2.trans ?_, h3.trans ?_, h4⟩
  · rw [Cert.ReferenceIdeal.Read.val_main_v16_eq, a0, a2, a3, a4, a5]
    exact Cert.Equation.logits_eq m c
  · rw [Cert.ReferenceIdeal.Read.val_main_v22_eq, a0, a2, a3, a4, a5]
    exact Cert.Equation.probs_eq m c
  · rw [Cert.ReferenceIdeal.Read.val_main_v27_eq, a0, a2, a3, a4, a5]
    exact Cert.Equation.heads_eq m c
  · rw [Cert.ReferenceIdeal.Read.val_main_v37_eq, a0, a1, a2, a3, a4, a5]
    exact Cert.Equation.segments_eq m c

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, named, equation⟩

end Cert.Proof

end
